-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_equal_graphs [hPre_finite_equal_graphs : Cert.Pre_finite_equal_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_equal_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_equal_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_equal_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_equal_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_equal_graphs [hPre_finite_equal_graphs : Cert.Pre_finite_equal_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_equal_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_equal_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_equal_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_equal_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_equal_graphs [hKernelIdeal : Cert.KernelIdeal.Facts] [hPre_finite_equal_graphs : Cert.Pre_finite_equal_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_equal_graphs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_equal_graphs [hReferenceIdeal : Cert.ReferenceIdeal.Facts] [hPre_finite_equal_graphs : Cert.Pre_finite_equal_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_equal_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_equal_graphs [hKernelIdeal : Cert.KernelIdeal.Facts] [hReferenceIdeal : Cert.ReferenceIdeal.Facts] [hPre_finite_equal_graphs : Cert.Pre_finite_equal_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_equal_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_equal_graphs : Cert.Pre_finite_equal_graphs.Facts),
    quiescent_Kernel (hKernel := hKernel)
    ∧ quiescent_KernelIdeal (hKernelIdeal := hKernelIdeal)
    ∧ quiescent_KernelIdeal_pre_finite_equal_graphs (hKernelIdeal := hKernelIdeal) (hPre_finite_equal_graphs := hPre_finite_equal_graphs)
    ∧ quiescent_ReferenceIdeal (hReferenceIdeal := hReferenceIdeal)
    ∧ quiescent_ReferenceIdeal_pre_finite_equal_graphs (hReferenceIdeal := hReferenceIdeal) (hPre_finite_equal_graphs := hPre_finite_equal_graphs)
    ∧ preserves_Kernel_KernelIdeal
    ∧ algebraic_KernelIdeal_ReferenceIdeal_pre_finite_equal_graphs (hKernelIdeal := hKernelIdeal) (hReferenceIdeal := hReferenceIdeal) (hPre_finite_equal_graphs := hPre_finite_equal_graphs)
-- ==== Pre_finite_equal_graphs.lean ====
abbrev S32768x128 : Shape := ⟨2, ![32768, 128]⟩
abbrev S16 : Shape := ⟨1, ![16]⟩
abbrev S128x128 : Shape := ⟨2, ![128, 128]⟩
abbrev S1x128 : Shape := ⟨2, ![1, 128]⟩
abbrev S_ : Shape := ⟨0, ![]⟩

class Facts : Prop where
  bcast_S_S32768x128 : S_.BroadcastsInDim S32768x128 (![] : Fin 0 → Fin S32768x128.rank)
  bcast_S_S16 : S_.BroadcastsInDim S16 (![] : Fin 0 → Fin S16.rank)
  bcast_S_S128x128 : S_.BroadcastsInDim S128x128 (![] : Fin 0 → Fin S128x128.rank)
  bcast_S_S1x128 : S_.BroadcastsInDim S1x128 (![] : Fin 0 → Fin S1x128.rank)

variable [Facts]

def fn {F : FTy → Type} [FloatOps F] (main_arg0 : FVec F S32768x128 .f32) (main_arg1 : IVec S16 32) (main_arg2 : FVec F S128x128 .f32) (main_arg3 : FVec F S1x128 .f32) : IVec S32768x128 1 × IVec S16 1 × IVec S128x128 1 × IVec S1x128 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 32 := constantI S_ 32 2048#32
  let main_v3 : IVec S16 32 := broadcastInDim S16 ![] bcast_S_S16 main_c
  let main_v4 : IVec S16 1 := cmpi .eq main_arg1 main_v3
  let main_v5 : FVec F S128x128 .f32 := Host.absf main_arg2
  let main_cst_0 : FVec F S_ .f32 := constant S_ .f32 0x7F800000#32
  let main_v6 : FVec F S128x128 .f32 := broadcastInDim S128x128 ![] bcast_S_S128x128 main_cst_0
  let main_v7 : IVec S128x128 1 := cmpf .olt main_v5 main_v6
  let main_v8 : FVec F S1x128 .f32 := Host.absf main_arg3
  let main_cst_1 : FVec F S_ .f32 := constant S_ .f32 0x7F800000#32
  let main_v9 : FVec F S1x128 .f32 := broadcastInDim S1x128 ![] bcast_S_S1x128 main_cst_1
  let main_v10 : IVec S1x128 1 := cmpf .olt main_v8 main_v9
  (main_v2, main_v4, main_v7, main_v10)
-- ==== Kernel.lean ====
abbrev S32768x128 : Shape := ⟨2, ![32768, 128]⟩
abbrev S16 : Shape := ⟨1, ![16]⟩
abbrev S128x128 : Shape := ⟨2, ![128, 128]⟩
abbrev S1x128 : Shape := ⟨2, ![1, 128]⟩
abbrev S16x1x128 : Shape := ⟨3, ![16, 1, 128]⟩
abbrev S16384x128 : Shape := ⟨2, ![16384, 128]⟩
abbrev S8x1x128 : Shape := ⟨3, ![8, 1, 128]⟩
abbrev S1x16384 : Shape := ⟨2, ![1, 16384]⟩
abbrev S1x2048 : Shape := ⟨2, ![1, 2048]⟩
abbrev S2048x128 : Shape := ⟨2, ![2048, 128]⟩
abbrev S1x1x2048 : Shape := ⟨3, ![1, 1, 2048]⟩
abbrev S1 : Shape := ⟨1, ![1]⟩
abbrev S1x1x1 : Shape := ⟨3, ![1, 1, 1]⟩
abbrev S8x128 : Shape := ⟨2, ![8, 128]⟩
abbrev S16x128 : Shape := ⟨2, ![16, 128]⟩

abbrev nBuf : Space → Nat
  | .hbm => 6
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S16, .i32⟩
  | .hbm, ⟨2, _⟩ => ⟨S128x128, .f32⟩
  | .hbm, ⟨3, _⟩ => ⟨S1x128, .f32⟩
  | .hbm, ⟨4, _⟩ => ⟨S16x1x128, .f32⟩
  | .hbm, ⟨5, _⟩ => ⟨S16x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S8x1x128, .f32⟩
  | .local _ .vmem, ⟨5, _⟩ => ⟨S8x1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x128 : Shape := ⟨2, ![32768, 128]⟩
abbrev S16 : Shape := ⟨1, ![16]⟩
abbrev S128x128 : Shape := ⟨2, ![128, 128]⟩
abbrev S1x128 : Shape := ⟨2, ![1, 128]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S1x32768 : Shape := ⟨2, ![1, 32768]⟩
abbrev S16x32768 : Shape := ⟨2, ![16, 32768]⟩
abbrev S16x128 : Shape := ⟨2, ![16, 128]⟩

abbrev nBuf : Space → Nat
  | .hbm => 109
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16, .i32⟩
  | .hbm, ⟨2, _⟩ => ⟨S128x128, .f32⟩
  | .hbm, ⟨3, _⟩ => ⟨S1x128, .f32⟩
  | .hbm, ⟨4, _⟩ => ⟨S16, .i32⟩
  | .hbm, ⟨5, _⟩ => ⟨S1, .i32⟩
  | .hbm, ⟨6, _⟩ => ⟨S15, .i32⟩
  | .hbm, ⟨7, _⟩ => ⟨S16, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S32768, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S16x1, .i32⟩
  | .hbm, ⟨25, _⟩ => ⟨S_, .i32⟩
  | .hbm, ⟨26, _⟩ => ⟨S16, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S1, .i32⟩
  | .hbm, ⟨43, _⟩ => ⟨S_, .i32⟩
  | .hbm, ⟨44, _⟩ => ⟨S32768x1, .i32⟩
  | .hbm, ⟨45, _⟩ => ⟨S32768x1, .i1⟩
  | .hbm, ⟨46, _⟩ => ⟨S1x1, .i32⟩
  | .hbm, ⟨47, _⟩ => ⟨S32768x1, .i32⟩
  | .hbm, ⟨48, _⟩ => ⟨S32768x1, .i1⟩
  | .hbm, ⟨49, _⟩ => ⟨S32768x1, .i1⟩
  | .hbm, ⟨50, _⟩ => ⟨S_, .i1⟩
  | .hbm, ⟨51, _⟩ => ⟨S32768, .i1⟩
  | .hbm, ⟨52, _⟩ => ⟨S32768, .i32⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S128x128, .f32⟩
  | .hbm, ⟨57, _⟩ => ⟨S32768x128, .f32⟩
  | .hbm, ⟨58, _⟩ => ⟨S32768x128, .f32⟩
  | .hbm, ⟨59, _⟩ => ⟨S32768x128, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S1x32768, .i32⟩
  | .hbm, ⟨64, _⟩ => ⟨S16, .i32⟩
  | .hbm, ⟨65, _⟩ => ⟨S16x1, .i32⟩
  | .hbm, ⟨66, _⟩ => ⟨S16x32768, .i32⟩
  | .hbm, ⟨67, _⟩ => ⟨S16x32768, .i32⟩
  | .hbm, ⟨68, _⟩ => ⟨S16x32768, .i1⟩
  | .hbm, ⟨69, _⟩ => ⟨S1x32768, .f32⟩
  | .hbm, ⟨70, _⟩ => ⟨S_, .f32⟩
  | .hbm, ⟨71, _⟩ => ⟨S_, .f32⟩
  | .hbm, ⟨72, _⟩ => ⟨S16x32768, .f32⟩
  | .hbm, ⟨73, _⟩ => ⟨S16x32768, .f32⟩
  | .hbm, ⟨74, _⟩ => ⟨S16x32768, .f32⟩
  | .hbm, ⟨75, _⟩ => ⟨S_, .f32⟩
  | .hbm, ⟨76, _⟩ => ⟨S16, .f32⟩
  | .hbm, ⟨77, _⟩ => ⟨S_, .i32⟩
  | .hbm, ⟨78, _⟩ => ⟨S32768, .i32⟩
  | .hbm, ⟨79, _⟩ => ⟨S32768, .i1⟩
  | .hbm, ⟨80, _⟩ => ⟨S_, .i32⟩
  | .hbm, ⟨81, _⟩ => ⟨S32768, .i32⟩
  | .hbm, ⟨82, _⟩ => ⟨S32768, .i32⟩
  | .hbm, ⟨83, _⟩ => ⟨S32768, .i32⟩
  | .hbm, ⟨84, _⟩ => ⟨S32768x1, .i32⟩
  | .hbm, ⟨85, _⟩ => ⟨S32768, .f32⟩
  | .hbm, ⟨86, _⟩ => ⟨S32768, .f32⟩
  | .hbm, ⟨87, _⟩ => ⟨S32768, .f32⟩
  | .hbm, ⟨88, _⟩ => ⟨S_, .f32⟩
  | .hbm, ⟨89, _⟩ => ⟨S16, .f32⟩
  | .hbm, ⟨90, _⟩ => ⟨S32768x1, .i32⟩
  | .hbm, ⟨91, _⟩ => ⟨S16, .f32⟩
  | .hbm, ⟨92, _⟩ => ⟨S_, .i32⟩
  | .hbm, ⟨93, _⟩ => ⟨S32768, .i32⟩
  | .hbm, ⟨94, _⟩ => ⟨S32768, .i1⟩
  | .hbm, ⟨95, _⟩ => ⟨S_, .i32⟩
  | .hbm, ⟨96, _⟩ => ⟨S32768, .i32⟩
  | .hbm, ⟨97, _⟩ => ⟨S32768, .i32⟩
  | .hbm, ⟨98, _⟩ => ⟨S32768, .i32⟩
  | .hbm, ⟨99, _⟩ => ⟨S32768x1, .i32⟩
  | .hbm, ⟨100, _⟩ => ⟨S32768, .f32⟩
  | .hbm, ⟨101, _⟩ => ⟨S32768, .f32⟩
  | .hbm, ⟨102, _⟩ => ⟨S32768x1, .f32⟩
  | .hbm, ⟨103, _⟩ => ⟨S32768x128, .f32⟩
  | .hbm, ⟨104, _⟩ => ⟨S32768x128, .f32⟩
  | .hbm, ⟨105, _⟩ => ⟨S_, .f32⟩
  | .hbm, ⟨106, _⟩ => ⟨S16x128, .f32⟩
  | .hbm, ⟨107, _⟩ => ⟨S32768x1, .i32⟩
  | .hbm, ⟨108, _⟩ => ⟨S16x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_6 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v31 : Ref sig .tc := ⟨.hbm, 74, rfl⟩
abbrev main_cst_7 : Ref sig .tc := ⟨.hbm, 75, rfl⟩
abbrev main_v32 : Ref sig .tc := ⟨.hbm, 76, rfl⟩
abbrev main_c_8 : Ref sig .tc := ⟨.hbm, 77, rfl⟩
abbrev main_v33 : Ref sig .tc := ⟨.hbm, 78, rfl⟩
abbrev main_v34 : Ref sig .tc := ⟨.hbm, 79, rfl⟩
abbrev main_c_9 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_10 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_11 : Ref sig .tc := ⟨.hbm, 92, rfl⟩
abbrev main_v45 : Ref sig .tc := ⟨.hbm, 93, rfl⟩
abbrev main_v46 : Ref sig .tc := ⟨.hbm, 94, rfl⟩
abbrev main_c_12 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_13 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩

abbrev nD : Nat := 1
abbrev τ : Topo := Topo.v7x

variable {F : FTy → Type} [FloatOps F]
-- ==== Proof.KernelBlock.lean ====
/- What the kernel body computes from one block: the exponentials of the scores of its 16384 rows, the normalized
   weighted row sum of one graph, and the eight rows it stores. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Pool

open Idealize.ShloMosaic Idealize.ShloMosaic.TcCoe Idealize.SL.Sem
open Cert.KernelIdeal Cert.KernelIdeal.Gen

/-- The exponentials row of a block: entry `p` is `exp (tanh s)`, `s` the row `p` of the block against the row
    `a · W`. -/
theorem scores_at (W : FVec Ideal S128x128 .f32) (a : FVec Ideal S1x128 .f32) (X : FVec Ideal S16384x128 .f32) (p : Fin 16384) :
    k0_pay2 (F := Ideal) W a X (ix2 (0 : Fin 1) p)
      = Ideal.exp (Ideal.tanh (∑ k : Fin 128, (∑ j : Fin 128, a (ix2 (0 : Fin 1) j) * W (ix2 j k)) * X (ix2 p k))) := by
  pointwise [k0_pay2]

/-- One graph's row from its exponentials `e` and its rows `x`: the weighted sum of the rows over the sum of the
    weights. -/
theorem row_at (e : FVec Ideal S1x2048 .f32) (x : FVec Ideal S2048x128 .f32) (k : Fin 128) :
    k0_pay7 (F := Ideal) e x (constant S1x128 .f32 0x00000000#32) (ix2 (0 : Fin 1) k)
      = Ideal.div (∑ r : Fin 2048, e (ix2 (0 : Fin 1) r) * x (ix2 r k)) (∑ r : Fin 2048, e (ix2 (0 : Fin 1) r)) := by
  pointwise [k0_pay7]
  rw [Fin.sum_univ_one]

/-- Row `2048 s + r` of a block of 16384 rows: the `r`-th row of its `s`-th graph. -/
def blockRow (s : Fin 8) (r : Fin 2048) : Fin 16384 := ⟨2048 * s.val + r.val, by omega⟩

/-- The weight of row `p` of a block, `exp (tanh s)` with `s` the row against `a · W`. -/
def blockWeight (W : FVec Ideal S128x128 .f32) (a : FVec Ideal S1x128 .f32) (X : FVec Ideal S16384x128 .f32) (p : Fin 16384) : EReal :=
  Ideal.exp (Ideal.tanh (∑ k : Fin 128, (∑ j : Fin 128, a (ix2 (0 : Fin 1) j) * W (ix2 j k)) * X (ix2 p k)))

/-- The pooled row of the `s`-th graph of a block, before `W` is applied: column `k`. -/
def blockPool (W : FVec Ideal S128x128 .f32) (a : FVec Ideal S1x128 .f32) (X : FVec Ideal S16384x128 .f32) (s : Fin 8) (k : Fin 128) : EReal :=
  Ideal.div (∑ r : Fin 2048, blockWeight W a X (blockRow s r) * X (ix2 (blockRow s r) k)) (∑ r : Fin 2048, blockWeight W a X (blockRow s r))

/-- One graph's row from the weights of the block: where `x` holds the rows of graph `s` and `e` is the stretch of the
    weights that starts at `2048 s`, the quotient is `blockPool`. -/
theorem pooled_at (W : FVec Ideal S128x128 .f32) (a : FVec Ideal S1x128 .f32) (X : FVec Ideal S16384x128 .f32) (x : FVec Ideal S2048x128 .f32)
    (s : Fin 8) (o : Nat) (ho : o = 2048 * s.val)
    (hx : ∀ (r : Fin 2048) (k : Fin 128), x (ix2 r k) = X (ix2 (blockRow s r) k)) (h : S1x16384.Slices (![0, o] : Fin 2 → Nat) S1x2048) (k : Fin 128) :
    k0_pay7 (F := Ideal) (extractStridedSlice S1x2048 ![0, o] (k0_pay2 (F := Ideal) W a X) h) x (constant S1x128 .f32 0x00000000#32) (ix2 (0 : Fin 1) k) = blockPool W a X s k := by
  have he : ∀ r : Fin 2048, extractStridedSlice S1x2048 ![0, o] (k0_pay2 (F := Ideal) W a X) h (ix2 (0 : Fin 1) r) = blockWeight W a X (blockRow s r) := by
    intro r
    refine Eq.trans ?_ (scores_at W a X (blockRow s r))
    subst ho
    generalize k0_pay2 (F := Ideal) W a X = E
    pointwise []
    rfl
  rw [row_at]
  simp only [he, hx]
  rfl

/-- The block the body stores: at row `s`, column `j`, the pooled row of graph `s` against row `j` of `W`, where the
    eight loads `x0 … x7` are the eight graphs' rows. -/
theorem stored_at (W : FVec Ideal S128x128 .f32) (a : FVec Ideal S1x128 .f32) (X : FVec Ideal S16384x128 .f32)
    (x0 x1 x2 x3 x4 x5 x6 x7 : FVec Ideal S2048x128 .f32)
    (h0 : ∀ (r : Fin 2048) (k : Fin 128), x0 (ix2 r k) = X (ix2 (blockRow 0 r) k))
    (h1 : ∀ (r : Fin 2048) (k : Fin 128), x1 (ix2 r k) = X (ix2 (blockRow 1 r) k))
    (h2 : ∀ (r : Fin 2048) (k : Fin 128), x2 (ix2 r k) = X (ix2 (blockRow 2 r) k))
    (h3 : ∀ (r : Fin 2048) (k : Fin 128), x3 (ix2 r k) = X (ix2 (blockRow 3 r) k))
    (h4 : ∀ (r : Fin 2048) (k : Fin 128), x4 (ix2 r k) = X (ix2 (blockRow 4 r) k))
    (h5 : ∀ (r : Fin 2048) (k : Fin 128), x5 (ix2 r k) = X (ix2 (blockRow 5 r) k))
    (h6 : ∀ (r : Fin 2048) (k : Fin 128), x6 (ix2 r k) = X (ix2 (blockRow 6 r) k))
    (h7 : ∀ (r : Fin 2048) (k : Fin 128), x7 (ix2 r k) = X (ix2 (blockRow 7 r) k))
    (s : Fin 8) (j : Fin 128) :
    k0_pay1 (F := Ideal) W (k0_pay3 (F := Ideal) W a X x0) (k0_pay4 (F := Ideal) W a X x1) (k0_pay5 (F := Ideal) W a X x2) (k0_pay7 (F := Ideal) (k0_pay6 (F := Ideal) W a X) x3 (constant S1x128 .f32 0x00000000#32))
        (k0_pay8 (F := Ideal) (k0_pay2 (F := Ideal) W a X) x4) (k0_pay9 (F := Ideal) (k0_pay2 (F := Ideal) W a X) x5) (k0_pay10 (F := Ideal) (k0_pay2 (F := Ideal) W a X) x6) (k0_pay11 (F := Ideal) (k0_pay2 (F := Ideal) W a X) x7) (ix3 s (0 : Fin 1) j)
      = ∑ k : Fin 128, blockPool W a X s k * W (ix2 j k) := by
  have e0 : ∀ k, k0_pay3 (F := Ideal) W a X x0 (ix2 (0 : Fin 1) k) = blockPool W a X 0 k := pooled_at W a X x0 0 0 rfl h0 slices_S1x16384_o0_0_S1x2048
  have e1 : ∀ k, k0_pay4 (F := Ideal) W a X x1 (ix2 (0 : Fin 1) k) = blockPool W a X 1 k := pooled_at W a X x1 1 2048 rfl h1 slices_S1x16384_o0_2048_S1x2048
  have e2 : ∀ k, k0_pay5 (F := Ideal) W a X x2 (ix2 (0 : Fin 1) k) = blockPool W a X 2 k := pooled_at W a X x2 2 4096 rfl h2 slices_S1x16384_o0_4096_S1x2048
  have e3 : ∀ k, k0_pay7 (F := Ideal) (k0_pay6 (F := Ideal) W a X) x3 (constant S1x128 .f32 0x00000000#32) (ix2 (0 : Fin 1) k) = blockPool W a X 3 k :=
    pooled_at W a X x3 3 6144 rfl h3 slices_S1x16384_o0_6144_S1x2048
  have e4 : ∀ k, k0_pay8 (F := Ideal) (k0_pay2 (F := Ideal) W a X) x4 (ix2 (0 : Fin 1) k) = blockPool W a X 4 k := pooled_at W a X x4 4 8192 rfl h4 slices_S1x16384_o0_8192_S1x2048
  have e5 : ∀ k, k0_pay9 (F := Ideal) (k0_pay2 (F := Ideal) W a X) x5 (ix2 (0 : Fin 1) k) = blockPool W a X 5 k := pooled_at W a X x5 5 10240 rfl h5 slices_S1x16384_o0_10240_S1x2048
  have e6 : ∀ k, k0_pay10 (F := Ideal) (k0_pay2 (F := Ideal) W a X) x6 (ix2 (0 : Fin 1) k) = blockPool W a X 6 k := pooled_at W a X x6 6 12288 rfl h6 slices_S1x16384_o0_12288_S1x2048
  have e7 : ∀ k, k0_pay11 (F := Ideal) (k0_pay2 (F := Ideal) W a X) x7 (ix2 (0 : Fin 1) k) = blockPool W a X 7 k := pooled_at W a X x7 7 14336 rfl h7 slices_S1x16384_o0_14336_S1x2048
  generalize k0_pay3 (F := Ideal) W a X x0 = y0 at *
  generalize k0_pay4 (F := Ideal) W a X x1 = y1 at *
  generalize k0_pay5 (F := Ideal) W a X x2 = y2 at *
  generalize k0_pay7 (F := Ideal) (k0_pay6 (F := Ideal) W a X) x3 (constant S1x128 .f32 0x00000000#32) = y3 at *
  generalize k0_pay8 (F := Ideal) (k0_pay2 (F := Ideal) W a X) x4 = y4 at *
  generalize k0_pay9 (F := Ideal) (k0_pay2 (F := Ideal) W a X) x5 = y5 at *
  generalize k0_pay10 (F := Ideal) (k0_pay2 (F := Ideal) W a X) x6 = y6 at *
  generalize k0_pay11 (F := Ideal) (k0_pay2 (F := Ideal) W a X) x7 = y7 at *
  pointwise [k0_pay1]
  refine Finset.sum_congr rfl fun k _ => ?_
  congr 1
  fin_vals s with hs
  all_goals simp only [hs, Nat.lt_irrefl, Nat.reduceLT, Nat.reduceSub, ↓reduceDIte]
  · obtain rfl : s = 0 := Fin.ext hs
    exact e0 k
  · obtain rfl : s = 1 := Fin.ext hs
    exact e1 k
  · obtain rfl : s = 2 := Fin.ext hs
    exact e2 k
  · obtain rfl : s = 3 := Fin.ext hs
    exact e3 k
  · obtain rfl : s = 4 := Fin.ext hs
    exact e4 k
  · obtain rfl : s = 5 := Fin.ext hs
    exact e5 k
  · obtain rfl : s = 6 := Fin.ext hs
    exact e6 k
  · obtain rfl : s = 7 := Fin.ext hs
    exact e7 k

end Cert.KernelIdeal.Pool

end
-- ==== Proof.KernelValue.lean ====
/- What the kernel's result holds after its run: row `b` of the result is the pooled row of graph `b` against the rows
   of `W`, graph `b` being the `b % 8`-th graph of block `b / 8`. -/
module

public import proofs.«01_k».proof.Proof.KernelBlock
public import Idealize.ShloMosaic.Lib.Claim

@[expose] public section

set_option maxRecDepth 16384

noncomputable section

namespace Cert.KernelIdeal.Pool

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Row `r` of graph `b`, among all the rows. -/
def rowOf (b : Fin 16) (r : Fin 2048) : Fin 32768 := ⟨2048 * b.val + r.val, by omega⟩

/-- The weight of row `i`: `exp (tanh s)` with `s` the row against `a · W`. -/
def weight (X : FVec Ideal S32768x128 .f32) (W : FVec Ideal S128x128 .f32) (a : FVec Ideal S1x128 .f32) (i : Fin 32768) : EReal :=
  Ideal.exp (Ideal.tanh (∑ k : Fin 128, (∑ j : Fin 128, a (ix2 (0 : Fin 1) j) * W (ix2 j k)) * X (ix2 i k)))

/-- The kernel's result at graph `b` and column `j`. -/
def pooled (X : FVec Ideal S32768x128 .f32) (W : FVec Ideal S128x128 .f32) (a : FVec Ideal S1x128 .f32) (b : Fin 16) (j : Fin 128) : EReal :=
  ∑ k : Fin 128, Ideal.div (∑ r : Fin 2048, weight X W a (rowOf b r) * X (ix2 (rowOf b r) k)) (∑ r : Fin 2048, weight X W a (rowOf b r)) * W (ix2 j k)

/-- The array the launch leaves, before it is reshaped: its three coordinates are the graph, a `0` and the column. -/
def stacked (X : FVec Ideal S32768x128 .f32) (W : FVec Ideal S128x128 .f32) (a : FVec Ideal S1x128 .f32) : FVec Ideal S16x1x128 .f32 :=
  fun i => pooled X W a (i 0) (i 2)

/-- Where each window's block sits at each of the two points. -/
theorem idx : ∀ t : Fin cfg0.N, win0_0.index t = ![t.val, 0] ∧ win0_1.index t = ![0, 0] ∧ win0_2.index t = ![0, 0]
    ∧ win0_3.index t = ![t.val, 0, 0] :=
  (by decide +kernel : ∀ t : Fin grid0.N, _)

/-- What the body leaves in the output block at point `t` is `stacked` where the block sits. -/
theorem point (c : Dev nD) (t : Fin cfg0.N) (s : Fin 8) (j : Fin 128) :
    (∑ k : Fin 128, blockPool (iblk m c 1 t) (iblk m c 2 t) (iblk m c 0 t) s k * (show FVec Ideal S128x128 .f32 from iblk m c 1 t) (ix2 j k))
      = stacked (m ((c : Thread nD τ).loc main_arg0)) (m ((c : Thread nD τ).loc main_arg2)) (m ((c : Thread nD τ).loc main_arg3))
          (((cfg0.win 3).blk t).view.emb (ix3 s (0 : Fin 1) j)) := by
  unfold stacked pooled weight blockPool blockWeight
  blk_point [iblk, V, idx t, blockRow, rowOf]

/-- The array the launch leaves. -/
theorem final (c : Dev nD) : (dats m 0 c).arrAt 3 (cfgs 0).N
    = stacked (m ((c : Thread nD τ).loc main_arg0)) (m ((c : Thread nD τ).loc main_arg2)) (m ((c : Thread nD τ).loc main_arg3)) := by
  refine (dats m 0 c).arrAt_eq_of_covers 3 _ (by decide +kernel) fun t _ y => ?_
  blk_simp
  rw [after0_3]
  unfold_out out0_3
  frame_out
  obtain ⟨s, j, rfl⟩ : ∃ (s : Fin 8) (j : Fin 128), y = ix3 s (0 : Fin 1) j :=
    ⟨y 0, y 2, by
      funext d
      match d with
      | ⟨0, _⟩ => rfl
      | ⟨1, _⟩ => exact Fin.ext (by have := (y 1).isLt; change (y 1).val < 1 at this; show (y 1).val = 0; omega)
      | ⟨2, _⟩ => rfl⟩
  refine Eq.trans (stored_at _ _ _ _ _ _ _ _ _ _ _ ?_ ?_ ?_ ?_ ?_ ?_ ?_ ?_ s j) (point m c t s j)
  all_goals
    intro r k
    generalize iblk m c 0 t = X
    pointwise []
    blk_ext [blockRow]

set_option backward.isDefEq.respectTransparency.types false in
/-- The kernel's result buffer after the host line that drops the middle coordinate. -/
theorem result (c : Dev nD) : Pipeline.afterTail₀ cfgs (dats m) 0 (V0 m) [hostOps1] c main_v1
    = fun i => pooled (m ((c : Thread nD τ).loc main_arg0)) (m ((c : Thread nD τ).loc main_arg2)) (m ((c : Thread nD τ).loc main_arg3)) (i 0) (i 1) := by
  unfold Pipeline.afterTail₀
  simp only [hostOps1, List.flatten_cons, List.flatten_nil, List.append_nil, List.cons_append, List.nil_append]
  after_results
  have hA : Pipeline.withArrays (cfgs 0).spec c (V0 m c) (fun w => (dats m 0 c).arrAt w (cfgs 0).N) (Proc.tc.devRef main_v0)
      = stacked (m ((c : Thread nD τ).loc main_arg0)) (m ((c : Thread nD τ).loc main_arg2)) (m ((c : Thread nD τ).loc main_arg3)) :=
    (Pipeline.withArrays_arr (cfgs 0).spec (by decide) c (V0 m c) (fun w => (dats m 0 c).arrAt w (cfgs 0).N) 3).trans (final m c)
  rw [hA]
  generalize m ((c : Thread nD τ).loc main_arg0) = X
  generalize m ((c : Thread nD τ).loc main_arg2) = W
  generalize m ((c : Thread nD τ).loc main_arg3) = a
  funext i
  show shapeCast S16x128 (stacked X W a) shapeCasts_S16x1x128_S16x128 i = _
  idx_vars i
  pointwise [stacked]

/-- After every run the result holds the pooled rows and the four arguments hold what they held. -/
theorem run (g : Dev nD → PrngReg) : θ_run defs (onTc (τ := τ) (main (F := Ideal))) ⟨m, fun _ => 0, g⟩ (fun r => ∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.mem ((c : Thread nD τ).loc main_v1) = fun i => pooled (m ((c : Thread nD τ).loc main_arg0))
          (m ((c : Thread nD τ).loc main_arg2)) (m ((c : Thread nD τ).loc main_arg3)) (i 0) (i 1)) :=
  (θ_run defs _ _).mono (fun _ h c => ⟨h.1 c, ((h.2 c).2 main_v1 (Pipeline.mem_restRefs_of main_v1 (by decide) (by decide))).trans (result m c)⟩)
    (θ_run_and (unchanged m g) (run_main m g))

end Cert.KernelIdeal.Pool

end
-- ==== Proof.ScatterAt.lean ====
/- Where the updates of a scatter by one index word per update land, and what an accumulating float scatter then holds:
   at row `b`, the sum of the updates whose index word is `b`. At any extents; nothing here names a program. -/
module

public import Idealize.ShloMosaic.Lib.Routing.OpsOne
public import Idealize.ShloMosaic.Lib.Claim
public import Idealize.ShloMosaic.Lib.Pointwise

@[expose] public section

set_option maxRecDepth 16384

noncomputable section

namespace Cert.Segments

open Idealize.ShloMosaic Idealize.ShloMosaic.Routing

/-- A literal one-entry list has its entry at every position. -/
theorem get_single {α : Type} (l : List α) (a : α) (hl : l = [a]) (n : ℕ) (h : n < l.length) : l[n]'h = a := by
  subst hl
  exact List.mem_singleton.1 (List.getElem_mem h)

/-- Update `k` of a scatter of `M` scalars into a vector lands at entry `e` exactly when index word `k`, read signed, is `e`. -/
theorem lands_vec {M N w : ℕ} (d : ScatterDims (shape1 N) (shape2 M 1) (shape1 M)) (hiw : d.insertedWindowDims = [0])
    (hsd : d.scatterDimsToOperandDims = [0]) (hivd : d.indexVectorDim = 1) (idx : IVec (shape2 M 1) w) (k : Fin M) (e : Fin N) :
    d.resultIdx? (ix1 k) idx = some (ix1 e) ↔ (idx (ix2 k (0 : Fin 1))).toInt = (e.val : Int) := by
  have hm : (0 : Fin 1) ∈ d.scatterDimsToOperandDims := hsd ▸ List.mem_singleton.2 rfl
  have hwin : d.window (ix1 k) 0 = 0 := by
    unfold ScatterDims.window
    exact dif_neg fun h => (of_decide_eq_true (List.mem_filter.1 h).2) (hiw ▸ List.mem_singleton.2 rfl)
  have hsi : d.siIdx (ix1 k) ⟨d.scatterDimsToOperandDims.idxOf 0, List.idxOf_lt_length_iff.2 hm⟩ = ix2 k (0 : Fin 1) := by
    funext b
    match b with
    | ⟨0, _⟩ =>
      refine Fin.ext ?_
      unfold ScatterDims.siIdx
      rw [dif_neg (by rw [hivd]; exact Nat.zero_ne_one)]
      unfold ScatterDims.siCoord
      rw [Fin.val_cast]
      have q : ∀ z : Fin 1, (ix1 k z).val = k.val := fun z => congrArg (fun z => (ix1 k z).val) (Subsingleton.elim z 0)
      exact q _
    | ⟨1, _⟩ => exact Subsingleton.elim (α := Fin 1) _ _
  have hstart : d.start (ix1 k) idx 0 = (idx (ix2 k (0 : Fin 1))).toInt := by
    unfold ScatterDims.start
    rw [dif_pos hm, hsi]
  refine (resultIdx?_ix1 d (ix1 k) idx e).trans ?_
  rw [hstart, hwin, Int.natCast_zero, Int.add_zero]

/-- Entry `(k, c')` of the updates of a scatter of `M` rows into a matrix lands at `(e, c)` exactly when index word `k`, read
    signed, is `e` and the columns agree. -/
theorem lands_rows {M N C w : ℕ} (d : ScatterDims (shape2 N C) (shape2 M 1) (shape2 M C)) (huw : d.updateWindowDims = [1])
    (hiw : d.insertedWindowDims = [0]) (hsd : d.scatterDimsToOperandDims = [0]) (hivd : d.indexVectorDim = 1)
    (idx : IVec (shape2 M 1) w) (k : Fin M) (c' : Fin C) (e : Fin N) (c : Fin C) :
    d.resultIdx? (ix2 k c') idx = some (ix2 e c) ↔ (idx (ix2 k (0 : Fin 1))).toInt = (e.val : Int) ∧ c' = c := by
  have hm : (0 : Fin 2) ∈ d.scatterDimsToOperandDims := hsd ▸ List.mem_singleton.2 rfl
  have hkept : d.sKept = [1] := by
    show (shape2 N C).kept d.insertedWindowDims = _
    rw [hiw]
    rfl
  have husc : d.uScatter = [0] := by
    show (shape2 M C).kept d.updateWindowDims = _
    rw [huw]
    rfl
  have hwin0 : d.window (ix2 k c') 0 = 0 := by
    unfold ScatterDims.window
    exact dif_neg fun h => by rw [hkept] at h; exact absurd (List.mem_singleton.1 h) (by decide : (0 : Fin 2) ≠ 1)
  have hwin1 : d.window (ix2 k c') 1 = c'.val := by
    unfold ScatterDims.window
    rw [dif_pos (by rw [hkept]; exact List.mem_singleton.2 rfl)]
    rw [get_single _ 1 huw]
    rfl
  have hstart1 : d.start (ix2 k c') idx 1 = 0 := by
    unfold ScatterDims.start
    exact dif_neg fun h => by rw [hsd] at h; exact absurd (List.mem_singleton.1 h) (by decide : (1 : Fin 2) ≠ 0)
  have hsi : d.siIdx (ix2 k c') ⟨d.scatterDimsToOperandDims.idxOf 0, List.idxOf_lt_length_iff.2 hm⟩ = ix2 k (0 : Fin 1) := by
    funext b
    match b with
    | ⟨0, _⟩ =>
      refine Fin.ext ?_
      unfold ScatterDims.siIdx
      rw [dif_neg (by rw [hivd]; exact Nat.zero_ne_one)]
      unfold ScatterDims.siCoord
      rw [Fin.val_cast, get_single _ 0 husc]
      rfl
    | ⟨1, _⟩ => exact Subsingleton.elim (α := Fin 1) _ _
  have hstart0 : d.start (ix2 k c') idx 0 = (idx (ix2 k (0 : Fin 1))).toInt := by
    unfold ScatterDims.start
    rw [dif_pos hm, hsi]
  refine (resultIdx?_ix2 d (ix2 k c') idx e c).trans ?_
  rw [hstart0, hwin0, hstart1, hwin1, Fin.ext_iff]
  omega

/-- An accumulating float scatter of `M` scalars into a vector: entry `e` is its old value plus the updates sent to `e`. -/
theorem scatterAdd_vec {M N w : ℕ} (d : ScatterDims (shape1 N) (shape2 M 1) (shape1 M)) (hiw : d.insertedWindowDims = [0])
    (hsd : d.scatterDimsToOperandDims = [0]) (hivd : d.indexVectorDim = 1) (x : FVec Ideal (shape1 N) .f32) (idx : IVec (shape2 M 1) w)
    (upd : FVec Ideal (shape1 M) .f32) (e : Fin N) :
    Host.scatterAdd d x idx upd (ix1 e)
      = x (ix1 e) + ∑ k : Fin M, if (idx (ix2 k (0 : Fin 1))).toInt = (e.val : Int) then (upd (ix1 k) : EReal) else 0 := by
  show Ideal.hostScatterAdd d x idx upd (ix1 e) = _
  unfold Ideal.hostScatterAdd
  rw [Finset.sum_filter, sum_idx1]
  simp only [lands_vec d hiw hsd hivd]

/-- An accumulating float scatter of `M` rows into a matrix: row `e` is its old value plus the rows sent to `e`. -/
theorem scatterAdd_rows {M N C w : ℕ} (d : ScatterDims (shape2 N C) (shape2 M 1) (shape2 M C)) (huw : d.updateWindowDims = [1])
    (hiw : d.insertedWindowDims = [0]) (hsd : d.scatterDimsToOperandDims = [0]) (hivd : d.indexVectorDim = 1)
    (x : FVec Ideal (shape2 N C) .f32) (idx : IVec (shape2 M 1) w) (upd : FVec Ideal (shape2 M C) .f32) (e : Fin N) (c : Fin C) :
    Host.scatterAdd d x idx upd (ix2 e c)
      = x (ix2 e c) + ∑ k : Fin M, if (idx (ix2 k (0 : Fin 1))).toInt = (e.val : Int) then (upd (ix2 k c) : EReal) else 0 := by
  show Ideal.hostScatterAdd d x idx upd (ix2 e c) = _
  unfold Ideal.hostScatterAdd
  rw [Finset.sum_filter, sum_idx2]
  simp only [lands_rows d huw hiw hsd hivd]
  refine congrArg (x (ix2 e c) + ·) (Finset.sum_congr rfl fun k _ => ?_)
  by_cases h : (idx (ix2 k (0 : Fin 1))).toInt = (e.val : Int)
  · simp [h]
  · simp [h]

/-- A sum of marks over `0 … M - 1` is their count. -/
theorem sum_marks (P : ℕ → Prop) [DecidablePred P] (M : ℕ) : ((List.range M).map fun k => if P k then 1 else 0).sum = Nat.count P M := by
  induction M with
  | zero => rfl
  | succ M ih => rw [List.range_succ, List.map_append, List.sum_append, ih, Nat.count_succ, List.map_singleton, List.sum_singleton]

/-- An integer scatter-add of ones into zeros counts: entry `e` is the number of index words that, read signed, are `e`. -/
theorem scatter_ones {M N : ℕ} (d : ScatterDims (shape1 N) (shape2 M 1) (shape1 M)) (hiw : d.insertedWindowDims = [0])
    (hsd : d.scatterDimsToOperandDims = [0]) (hivd : d.indexVectorDim = 1) (x : IVec (shape1 N) 32) (hx : ∀ i, x i = 0#32)
    (idx : IVec (shape2 M 1) 32) (upd : IVec (shape1 M) 32) (hupd : ∀ i, upd i = 1#32) (g : ℕ → ℕ)
    (hg : ∀ k : Fin M, (idx (ix2 k (0 : Fin 1))).toInt = (g k.val : Int)) (e : Fin N) :
    Host.scatter d IntOp.addi x idx upd (ix1 e) = BitVec.ofNat 32 (Nat.count (fun k => g k = e.val) M) := by
  have hstep : (fun (a : BitVec 32) (n : Fin (shape1 M).numel) =>
        if d.resultIdx? ((shape1 M).rowMajor.symm n) idx = some (ix1 e) then IntOp.addi a (upd ((shape1 M).rowMajor.symm n)) else a)
      = fun a n => IntOp.addi a (if g n.val = e.val then 1#32 else 0#32) := by
    funext a n
    have hn : d.resultIdx? ((shape1 M).rowMajor.symm n) idx = some (ix1 e) ↔ g n.val = e.val := by
      rw [symm1]
      refine (lands_vec d hiw hsd hivd idx _ e).trans ?_
      rw [hg]
      exact Int.ofNat_inj
    by_cases h : g n.val = e.val
    · rw [if_pos (hn.2 h), if_pos h, hupd]
    · rw [if_neg fun q => h (hn.1 q), if_neg h]
      exact (BitVec.add_zero a).symm
  rw [scatter_at, hx, hstep]
  refine (foldl_addi_ofNat _ (fun n : Fin (shape1 M).numel => if g n.val = e.val then 1#32 else 0#32) (fun n => if g n.val = e.val then 1 else 0)
    (fun n _ => by split <;> rfl) 0#32 0 rfl).trans ?_
  rw [Nat.zero_add, map_finRange_val _ (fun k => if g k = e.val then 1 else 0), numel1]
  exact congrArg _ (sum_marks (fun k => g k = e.val) M)

end Cert.Segments

end
-- ==== Proof.SegIds.lean ====
/- The graph that each row belongs to, as the reference computes it from the atom counts: with every count 2048, row `i`
   belongs to graph `i / 2048`. -/
module

public import proofs.«01_k».proof.Proof.ScatterAt
public import proofs.«01_k».proof.Proof.Gen.ReferenceIdeal.Run

@[expose] public section

set_option maxRecDepth 16384

noncomputable section

namespace Cert.ReferenceIdeal.Pool

open Idealize.ShloMosaic Idealize.ShloMosaic.TcCoe Idealize.SL.Sem Idealize.ShloMosaic.Routing
open Cert.ReferenceIdeal Cert.ReferenceIdeal.Gen Cert.ReferenceIdeal.Value Cert.Segments

/-- The prefix sums of `0, 2048, 2048, …`. -/
theorem sum_counts (j : ℕ) : ((List.range (j + 1)).map fun i => if i = 0 then 0 else 2048).sum = 2048 * j := by
  induction j with
  | zero => rfl
  | succ j ih =>
    rw [List.range_succ, List.map_append, List.sum_append, ih, List.map_singleton, List.sum_singleton, if_neg (Nat.succ_ne_zero j)]
    omega

/-- The prefix counts of the multiples of 2048. -/
theorem sum_starts (j : ℕ) : ((List.range (j + 1)).map fun i => if i % 2048 = 0 then 1 else 0).sum = j / 2048 + 1 := by
  induction j with
  | zero => rfl
  | succ j ih =>
    rw [List.range_succ, List.map_append, List.sum_append, ih, List.map_singleton, List.sum_singleton]
    split <;> omega

/-- Of the sixteen starts `0, 2048, …`, one is `i` when `i` is a multiple of 2048, none otherwise. -/
theorem count_starts (i : ℕ) (hi : i < 32768) : Nat.count (fun k => 2048 * k = i) 16 = if i % 2048 = 0 then 1 else 0 := by
  rw [Nat.count_eq_card_filter_range]
  split
  · next h =>
    refine Finset.card_eq_one.2 ⟨i / 2048, Finset.ext fun k => ?_⟩
    rw [Finset.mem_filter, Finset.mem_range, Finset.mem_singleton]
    omega
  · next h =>
    refine Finset.card_eq_zero.2 (Finset.filter_eq_empty_iff.2 fun k _ q => h ?_)
    omega

/-- A word below `2 ^ 31` is not wrapped: it is not negative. -/
theorem wrap_small (n : ℕ) (hn : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; exact hn)

/-- A conjunction over an axis of bits that all are set is set. -/
theorem all_set (x : IVec S32768x1 1) (hx : ∀ i, x i = 1#1) (i : S32768.Idx) :
    Host.reduce IntOp.andi x (constantI S_ 1 1#1) reducesTo_S32768x1_S32768_d1 h_S_ i = 1#1 := by
  have hs : ∀ s : Finset S32768x1.Idx, s.fold IntOp.andi (1#1) x = 1#1 := fun s => by
    induction s using Finset.induction_on with
    | empty => rfl
    | insert a s ha ih => rw [Finset.fold_insert ha, ih, hx]; rfl
  exact (Host.reduce_eq_fold _ _ _ _ _ _).trans (hs _)

/-- The running count of the rows that start a graph. -/
theorem prefix_at (x : IVec S32768 32) (hx : ∀ i : Fin 32768, x (ix1 i) = BitVec.ofNat 32 (if i.val % 2048 = 0 then 1 else 0)) (i : Fin 32768) :
    Host.reduceWindow IntOp.addi ![32768] ![1] ![32767] ![0] x (broadcastInDim S_ ![] bcast_S_S_ (constantI S_ 32 0#32))
      reduceWindows_S32768_S32768_w32768s1p32767_0 h_S_ (ix1 i) = BitVec.ofNat 32 (i.val / 2048 + 1) :=
  (cumsum1 (N := 32768) (Nm1 := 32767) (by norm_num) x (fun i => if i % 2048 = 0 then 1 else 0) hx _ rfl _ _ i).trans
    (congrArg _ (sum_starts i.val))

/-- The wrapped graph numbers are the graph numbers, for any vector of them. -/
theorem seg_wrapped (x : IVec S32768 32) (hx : ∀ i : Fin 32768, x (ix1 i) = BitVec.ofNat 32 (i.val / 2048)) (i : Fin 32768) :
    broadcastInDim S32768x1 ![0] bcast_S32768_S32768x1_0
      (select (cmpi .slt x (broadcastInDim S32768 ![] bcast_S_S32768 (constantI S_ 32 0#32)))
        (addi x (broadcastInDim S32768 ![] bcast_S_S32768 (constantI S_ 32 16#32))) x) (ix2 i (0 : Fin 1))
      = BitVec.ofNat 32 (i.val / 2048) := by
  refine (bcCol (n := 32768) _ _ i).trans ?_
  show Scalar.select (IntOp.cmpi .slt (x (ix1 i)) 0#32) _ (x (ix1 i)) = _
  rw [hx i]
  exact wrap_small _ (by omega) _

/-- A take from a table of sixteen at the wrapped graph numbers reads row `i`'s graph. -/
theorem take_seg {α : Type} (t : S16.Idx → α) (idx : IVec S32768x1 32) (hidx : ∀ i : Fin 32768, idx (ix2 i (0 : Fin 1)) = BitVec.ofNat 32 (i.val / 2048))
    (i : Fin 32768) :
    Host.gather gather_S16_S32768x1_S32768_n_0_n_n_0_1_1 t idx (ix1 i) = t (ix1 (⟨i.val / 2048, by omega⟩ : Fin 16)) := by
  exact gather_take1 (N := 16) (n := 32768) gather_S16_S32768x1_S32768_n_0_n_n_0_1_1 rfl rfl rfl rfl t idx i _ (hidx i) (by norm_num)

variable (V : Valuation τ sig (Elt Ideal)) (hn : (V (Proc.devRef .tc main_arg1) : IVec S16 32) = fun _ => 2048#32)
include hn

/-- The first row of graph `b` is `2048 b`. -/
theorem starts_at (b : Fin 16) : (res_main_v4 V : IVec S16 32) (ix1 b) = BitVec.ofNat 32 (2048 * b.val) := by
  unfold res_main_v4
  refine (cumsum1 (N := 16) (Nm1 := 15) rfl _ (fun i => if i = 0 then 0 else 2048) (fun i => ?_) _ ?_ _ _ b).trans
    (congrArg _ (sum_counts b.val))
  · refine (scatter_one scatter_S16_S1_S__n_0_0_0 rfl rfl _ _ _ (0 : Fin 16) (by decide) rfl i).trans ?_
    show _ = BitVec.ofNat 32 (if i.val = 0 then 0 else 2048)
    by_cases h : i = 0
    · rw [if_pos h, if_pos (show i.val = 0 from congrArg Fin.val h)]
      rfl
    · rw [if_neg h, if_neg (fun q : i.val = 0 => h (Fin.ext q)), hn]
      clear h
      revert i
      decide
  · rfl

/-- The wrapped starts are the starts. -/
theorem starts_wrapped (b : Fin 16) :
    (broadcastInDim S16x1 ![0] bcast_S16_S16x1_0
      (select (cmpi .slt (res_main_v4 V) (broadcastInDim S16 ![] bcast_S_S16 (constantI S_ 32 0#32)))
        (addi (res_main_v4 V) (broadcastInDim S16 ![] bcast_S_S16 (constantI S_ 32 32768#32))) (res_main_v4 V)) : IVec S16x1 32) (ix2 b (0 : Fin 1))
      = BitVec.ofNat 32 (2048 * b.val) := by
  refine (bcCol (n := 16) _ _ b).trans ?_
  show Scalar.select (IntOp.cmpi .slt ((res_main_v4 V : IVec S16 32) (ix1 b)) 0#32) _ ((res_main_v4 V : IVec S16 32) (ix1 b)) = _
  rw [starts_at V hn b]
  exact wrap_small _ (by omega) _

/-- Row `i` belongs to graph `i / 2048`, before the bounds check. -/
theorem marks_at (i : Fin 32768) : (res_main_v16 V : IVec S32768 32) (ix1 i) = BitVec.ofNat 32 (i.val / 2048) := by
  unfold res_main_v16
  refine (congrArg (fun z => IntOp.subi z 1#32) (prefix_at _ (fun k => ?_) i)).trans ?_
  · rw [← count_starts k.val k.isLt]
    refine scatter_ones scatter_S32768_S16x1_S16_n_0_0_1 rfl rfl rfl _ (fun _ => rfl) _ _ (fun _ => rfl) (fun b => 2048 * b) (fun b => ?_) k
    rw [starts_wrapped V hn b]
    exact StableHlo.Predicate.toInt_ofNat_small _ (by omega)
  · show BitVec.ofNat 32 (i.val / 2048 + 1) - 1#32 = _
    rw [BitVec.ofNat_add]
    exact BitVec.add_sub_cancel _ _

/-- Row `i` belongs to graph `i / 2048`. -/
theorem seg_at (i : Fin 32768) : (res_main_v17 V : IVec S32768 32) (ix1 i) = BitVec.ofNat 32 (i.val / 2048) := by
  unfold res_main_v17
  have hw : ∀ i : Fin 32768, (res_main_call3_v5 V : IVec S32768x1 32) (ix2 i (0 : Fin 1)) = BitVec.ofNat 32 (i.val / 2048) :=
    seg_wrapped _ (marks_at V hn)
  show Scalar.select (Host.reduce IntOp.andi _ (constantI S_ 1 1#1) reducesTo_S32768x1_S32768_d1 h_S_ (ix1 i))
    (Host.gather gather_S16_S32768x1_S32768_n_0_n_n_0_1_1 _ _ (ix1 i)) _ = _
  rw [all_set _ (fun j => ?_), take_seg _ _ hw]
  · rfl
  · have hj : (res_main_call3_v5 V : IVec S32768x1 32) j = BitVec.ofNat 32 ((j 0).val / 2048) := by
      refine (congrArg _ ?_).trans (hw (j 0))
      funext a
      match a with
      | ⟨0, _⟩ => rfl
      | ⟨1, _⟩ => exact Subsingleton.elim (α := Fin 1) _ _
    have hlt : (j 0).val < 32768 := (j 0).isLt
    show IntOp.andi (IntOp.cmpi .sge ((res_main_call3_v5 V : IVec S32768x1 32) j) 0#32)
      (IntOp.cmpi .sle ((res_main_call3_v5 V : IVec S32768x1 32) j) 15#32) = 1#1
    rw [hj]
    have hv : (BitVec.ofNat 32 ((j 0).val / 2048)).toNat = (j 0).val / 2048 := by
      rw [BitVec.toNat_ofNat]
      exact Nat.mod_eq_of_lt (by omega)
    rw [(StableHlo.Predicate.sge_iff_toNat (by rw [hv]; omega) (by decide)).2 (Nat.zero_le _),
      (StableHlo.Predicate.sle_iff_toNat (by rw [hv]; omega) (by decide)).2 (by rw [hv]; show _ ≤ 15; omega)]
    rfl

end Cert.ReferenceIdeal.Pool

end
-- ==== Proof.RefValue.lean ====
/- What the reference's result holds, entry by entry, when every atom count is 2048. -/
module

public import proofs.«01_k».proof.Proof.SegIds

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen Cert.ReferenceIdeal.Value Cert.Segments

/-- The graph of row `i`. -/
def graphOf (i : Fin 32768) : Fin 16 := ⟨i.val / 2048, by omega⟩

/-- Row `i` against row `j` of the weights: the linear layer. -/
def hidden (X : FVec Ideal S32768x128 .f32) (W : FVec Ideal S128x128 .f32) (i : Fin 32768) (j : Fin 128) : EReal :=
  ∑ k : Fin 128, X (ix2 i k) * W (ix2 j k)

/-- The score of row `i`. -/
def score (X : FVec Ideal S32768x128 .f32) (W : FVec Ideal S128x128 .f32) (a : FVec Ideal S1x128 .f32) (i : Fin 32768) : EReal :=
  Ideal.tanh (∑ j : Fin 128, a (ix2 (0 : Fin 1) j) * hidden X W i j)

/-- The greatest score of graph `b`. -/
def top (X : FVec Ideal S32768x128 .f32) (W : FVec Ideal S128x128 .f32) (a : FVec Ideal S1x128 .f32) (b : Fin 16) : EReal :=
  Finset.univ.fold max ⊥ fun i : Fin 32768 => if graphOf i = b then score X W a i else ⊥

/-- The exponential of row `i`'s score less its graph's greatest. -/
def expo (X : FVec Ideal S32768x128 .f32) (W : FVec Ideal S128x128 .f32) (a : FVec Ideal S1x128 .f32) (i : Fin 32768) : EReal :=
  Ideal.exp (score X W a i - top X W a (graphOf i))

/-- The sum of graph `b`'s exponentials. -/
def denom (X : FVec Ideal S32768x128 .f32) (W : FVec Ideal S128x128 .f32) (a : FVec Ideal S1x128 .f32) (b : Fin 16) : EReal :=
  ∑ i : Fin 32768, if graphOf i = b then expo X W a i else 0

/-- The reference's result at graph `b` and column `j`. -/
def pooled (X : FVec Ideal S32768x128 .f32) (W : FVec Ideal S128x128 .f32) (a : FVec Ideal S1x128 .f32) (b : Fin 16) (j : Fin 128) : EReal :=
  ∑ i : Fin 32768, if graphOf i = b then Ideal.div (expo X W a i) (denom X W a (graphOf i)) * hidden X W i j else 0

variable (V : Valuation τ sig (Elt Ideal))

/-- The linear layer's entries. -/
theorem hidden_at (i : Fin 32768) (j : Fin 128) :
    (res_main_v19 V : FVec Ideal S32768x128 .f32) (ix2 i j)
      = hidden (V (Proc.devRef .tc main_arg0)) (V (Proc.devRef .tc main_arg2)) i j := by
  unfold res_main_v19 hidden
  generalize V (Proc.devRef .tc main_arg0) = X
  generalize V (Proc.devRef .tc main_arg2) = W
  pointwise []

/-- The scores. -/
theorem score_at (i : Fin 32768) :
    (res_main_v23 V : FVec Ideal S32768 .f32) (ix1 i)
      = score (V (Proc.devRef .tc main_arg0)) (V (Proc.devRef .tc main_arg2)) (V (Proc.devRef .tc main_arg3)) i := by
  unfold res_main_v23 score
  pointwise [hidden_at]

/-- A maximum along the rows of a masked table of scores, from negative infinity. -/
theorem max_at (x : FVec Ideal S16x32768 .f32) (b : Fin 16) :
    Host.reduce FloatOps.maximumf x (constant S_ .f32 0xFF800000#32) reducesTo_S16x32768_S16_d1 h_S_ (ix1 b)
      = Finset.univ.fold max ⊥ fun i : Fin 32768 => (x (ix2 b i) : EReal) := by
  have hbot : Ideal.ofBits .f32 0xFF800000#32 = ⊥ := by simp [Ideal.ofBits, Ideal.ieee]
  pointwise []
  rw [hbot]

/-- An exponential of a vector less what its rows' graphs hold. -/
theorem exp_sub_take (s : FVec Ideal S32768 .f32) (t : FVec Ideal S16 .f32) (idx : IVec S32768x1 32)
    (hidx : ∀ i : Fin 32768, idx (ix2 i (0 : Fin 1)) = BitVec.ofNat 32 (i.val / 2048)) (i : Fin 32768) :
    (Host.exp (subf s (Host.gather gather_S16_S32768x1_S32768_n_0_n_n_0_1_1 t idx)) : FVec Ideal S32768 .f32) (ix1 i)
      = Ideal.exp ((s (ix1 i) : EReal) - t (ix1 (graphOf i))) := by
  have h := take_seg t idx hidx i
  pointwise [h, graphOf]

/-- Quotients by what the rows' graphs hold, spread over the columns and multiplied in. -/
theorem weighted_at (e : FVec Ideal S32768 .f32) (t : FVec Ideal S16 .f32) (h : FVec Ideal S32768x128 .f32) (idx : IVec S32768x1 32)
    (hidx : ∀ i : Fin 32768, idx (ix2 i (0 : Fin 1)) = BitVec.ofNat 32 (i.val / 2048)) (i : Fin 32768) (j : Fin 128) :
    (mulf (broadcastInDim S32768x128 ![0, 1] bcast_S32768x1_S32768x128_0_1 (broadcastInDim S32768x1 ![0] bcast_S32768_S32768x1_0
      (Host.divf e (Host.gather gather_S16_S32768x1_S32768_n_0_n_n_0_1_1 t idx)))) h : FVec Ideal S32768x128 .f32) (ix2 i j)
      = Ideal.div (e (ix1 i)) (t (ix1 (graphOf i))) * h (ix2 i j) := by
  have hg := take_seg t idx hidx i
  pointwise [hg, graphOf]

/-- A graph's number as a word says which graph it is. -/
theorem word_eq (i : Fin 32768) (b : Fin 16) : BitVec.ofNat 32 (i.val / 2048) = BitVec.ofNat 32 b.val ↔ graphOf i = b := by
  rw [Fin.ext_iff]
  show _ ↔ i.val / 2048 = b.val
  constructor
  · intro h
    have := congrArg BitVec.toNat h
    rw [BitVec.toNat_ofNat, BitVec.toNat_ofNat, Nat.mod_eq_of_lt (by omega), Nat.mod_eq_of_lt (by omega)] at this
    exact this
  · intro h
    rw [h]

variable (hn : (V (Proc.devRef .tc main_arg1) : IVec S16 32) = fun _ => 2048#32)
include hn

/-- The mask that keeps, in row `b`, the scores of graph `b`. -/
theorem mask_at (b : Fin 16) (i : Fin 32768) :
    (select (cmpi .eq (broadcastInDim S16x32768 ![0, 1] bcast_S1x32768_S16x32768_0_1
          (broadcastInDim S1x32768 ![1] bcast_S32768_S1x32768_1 (res_main_v17 V)))
        (broadcastInDim S16x32768 ![0, 1] bcast_S16x1_S16x32768_0_1 (broadcastInDim S16x1 ![0] bcast_S16_S16x1_0 (iotaInDim S16 32 0))))
      (broadcastInDim S16x32768 ![0, 1] bcast_S1x32768_S16x32768_0_1 (broadcastInDim S1x32768 ![1] bcast_S32768_S1x32768_1 (res_main_v23 V)))
      (broadcastInDim S16x32768 ![] bcast_S_S16x32768 (id (constant S_ .f32 0xFF800000#32))) : FVec Ideal S16x32768 .f32) (ix2 b i)
      = if graphOf i = b then score (V (Proc.devRef .tc main_arg0)) (V (Proc.devRef .tc main_arg2)) (V (Proc.devRef .tc main_arg3)) i else ⊥ := by
  have hbot : Ideal.ofBits .f32 0xFF800000#32 = ⊥ := by simp [Ideal.ofBits, Ideal.ieee]
  pointwise [score_at, seg_at V hn]
  rw [show (id (constant (F := Ideal) S_ .f32 0xFF800000#32) ix0 : EReal) = ⊥ from hbot]
  by_cases h : graphOf i = b
  · rw [if_pos h, (word_eq i b).2 h]
    simp [Scalar.select, IntOp.cmpi]
  · rw [if_neg h]
    have h' := fun q => h ((word_eq i b).1 q)
    simp [Scalar.select, IntOp.cmpi, beq_eq_false_iff_ne.2 h']

/-- The exponentials. -/
theorem expo_at (i : Fin 32768) :
    (res_main_v41 V : FVec Ideal S32768 .f32) (ix1 i)
      = expo (V (Proc.devRef .tc main_arg0)) (V (Proc.devRef .tc main_arg2)) (V (Proc.devRef .tc main_arg3)) i := by
  unfold res_main_v41 expo
  have hw := seg_wrapped (res_main_v17 V) (seg_at V hn)
  refine (exp_sub_take _ _ _ hw i).trans ?_
  rw [score_at, max_at]
  unfold top
  simp only [mask_at V hn]

/-- The column of graph numbers by which the sums over a graph are taken, read signed: row `i`'s graph. -/
theorem col_at (i : Fin 32768) (b : Fin 16) :
    ((broadcastInDim S32768x1 ![0] bcast_S32768_S32768x1_0 (res_main_v17 V) : IVec S32768x1 32) (ix2 i (0 : Fin 1))).toInt = (b.val : Int)
      ↔ graphOf i = b := by
  rw [show (broadcastInDim S32768x1 ![0] bcast_S32768_S32768x1_0 (res_main_v17 V) : IVec S32768x1 32) (ix2 i (0 : Fin 1))
      = BitVec.ofNat 32 (i.val / 2048) from (Routing.bcCol (n := 32768) _ _ i).trans (seg_at V hn i),
    StableHlo.Predicate.toInt_ofNat_small _ (by omega), Fin.ext_iff]
  exact Int.ofNat_inj

/-- The sums of the exponentials. -/
theorem denom_at (b : Fin 16) :
    (Host.scatterAdd scatter_S16_S32768x1_S32768_n_0_0_1 (broadcastInDim S16 ![] bcast_S_S16 (constant S_ .f32 0x00000000#32))
      (broadcastInDim S32768x1 ![0] bcast_S32768_S32768x1_0 (res_main_v17 V)) (res_main_v41 V) : FVec Ideal S16 .f32) (ix1 b)
      = denom (V (Proc.devRef .tc main_arg0)) (V (Proc.devRef .tc main_arg2)) (V (Proc.devRef .tc main_arg3)) b := by
  have hz : Ideal.ofBits .f32 0x00000000#32 = 0 := by simp [Ideal.ofBits, Ideal.ieee]
  refine (scatterAdd_vec scatter_S16_S32768x1_S32768_n_0_0_1 rfl rfl rfl _ _ _ b).trans ?_
  rw [show (broadcastInDim S16 ![] bcast_S_S16 (constant (F := Ideal) S_ .f32 0x00000000#32) (ix1 b) : EReal) = 0 from hz, zero_add]
  unfold denom
  refine Finset.sum_congr rfl fun i _ => ?_
  simp only [col_at V hn]
  rw [expo_at V hn]

/-- The reference's result. -/
theorem result_at (b : Fin 16) (j : Fin 128) :
    (Host.scatterAdd scatter_S16x128_S32768x1_S32768x128_1_0_0_1 (broadcastInDim S16x128 ![] bcast_S_S16x128 (constant S_ .f32 0x00000000#32))
      (broadcastInDim S32768x1 ![0] bcast_S32768_S32768x1_0 (res_main_v17 V))
      (mulf (broadcastInDim S32768x128 ![0, 1] bcast_S32768x1_S32768x128_0_1 (broadcastInDim S32768x1 ![0] bcast_S32768_S32768x1_0
        (Host.divf (res_main_v41 V) (Host.gather gather_S16_S32768x1_S32768_n_0_n_n_0_1_1
          (Host.scatterAdd scatter_S16_S32768x1_S32768_n_0_0_1 (broadcastInDim S16 ![] bcast_S_S16 (constant S_ .f32 0x00000000#32))
            (broadcastInDim S32768x1 ![0] bcast_S32768_S32768x1_0 (res_main_v17 V)) (res_main_v41 V))
          (broadcastInDim S32768x1 ![0] bcast_S32768_S32768x1_0
            (select (cmpi .slt (res_main_v17 V) (broadcastInDim S32768 ![] bcast_S_S32768 (constantI S_ 32 0#32)))
              (addi (res_main_v17 V) (broadcastInDim S32768 ![] bcast_S_S32768 (constantI S_ 32 16#32))) (res_main_v17 V))))))) (res_main_v19 V))
      : FVec Ideal S16x128 .f32) (ix2 b j)
      = pooled (V (Proc.devRef .tc main_arg0)) (V (Proc.devRef .tc main_arg2)) (V (Proc.devRef .tc main_arg3)) b j := by
  have hz : Ideal.ofBits .f32 0x00000000#32 = 0 := by simp [Ideal.ofBits, Ideal.ieee]
  have hw := seg_wrapped (res_main_v17 V) (seg_at V hn)
  refine (scatterAdd_rows scatter_S16x128_S32768x1_S32768x128_1_0_0_1 rfl rfl rfl rfl _ _ _ b j).trans ?_
  rw [show (broadcastInDim S16x128 ![] bcast_S_S16x128 (constant (F := Ideal) S_ .f32 0x00000000#32) (ix2 b j) : EReal) = 0 from hz, zero_add]
  unfold pooled
  refine Finset.sum_congr rfl fun i _ => ?_
  simp only [col_at V hn]
  rw [weighted_at _ _ _ _ hw i j, denom_at V hn, expo_at V hn, hidden_at]

end Cert.ReferenceIdeal.Pool

end
-- ==== Proof.Algebra.lean ====
/- The equation: on real arrays the kernel's pooled rows are the reference's. -/
module

public import proofs.«01_k».proof.Proof.KernelValue
public import proofs.«01_k».proof.Proof.RefValue

@[expose] public section

set_option maxRecDepth 16384

noncomputable section

namespace Cert.Equation

open Idealize.ShloMosaic
open Cert.KernelIdeal.Pool (rowOf)
open Cert.ReferenceIdeal.Pool (graphOf)

/-- A sum of reals, as extended reals, is the sum of the reals. -/
theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A running maximum, from negative infinity, of values below infinity of which one is a real is a real. -/
theorem fold_max_real {ι : Type} (s : Finset ι) (f : ι → EReal) (htop : ∀ i ∈ s, f i ≠ ⊤) (i₀ : ι) (h₀ : i₀ ∈ s) (hbot : f i₀ ≠ ⊥) :
    ∃ μ : ℝ, s.fold max ⊥ f = (μ : EReal) := by
  have hlt : s.fold max ⊥ f < ⊤ := (Finset.fold_max_lt _).2 ⟨bot_lt_top, fun i hi => lt_top_iff_ne_top.2 (htop i hi)⟩
  have hle : f i₀ ≤ s.fold max ⊥ f := (Finset.le_fold_max _).2 (Or.inr ⟨i₀, h₀, le_rfl⟩)
  exact ⟨_, (EReal.coe_toReal hlt.ne fun h => hbot (le_bot_iff.1 (h ▸ hle))).symm⟩

/-- Row `r` of graph `b` belongs to graph `b`. -/
theorem graphOf_rowOf (b : Fin 16) (r : Fin 2048) : graphOf (rowOf b r) = b := by
  refine Fin.ext ?_
  show (2048 * b.val + r.val) / 2048 = b.val
  omega

/-- A sum over the rows of one graph, picked out of all the rows, is the sum over the graph's 2048 rows. -/
theorem sum_graph {M : Type} [AddCommMonoid M] (b : Fin 16) (f : Fin 32768 → M) :
    (∑ i : Fin 32768, if graphOf i = b then f i else 0) = ∑ r : Fin 2048, f (rowOf b r) := by
  rw [← Finset.sum_filter]
  refine (Finset.sum_bij (fun r _ => rowOf b r) (fun r _ => ?_) (fun r _ r' _ h => ?_) (fun i hi => ?_) (fun _ _ => rfl)).symm
  · exact Finset.mem_filter.2 ⟨Finset.mem_univ _, graphOf_rowOf b r⟩
  · refine Fin.ext ?_
    have := congrArg Fin.val h
    change 2048 * b.val + r.val = 2048 * b.val + r'.val at this
    omega
  · have h : i.val / 2048 = b.val := congrArg Fin.val (Finset.mem_filter.1 hi).2
    exact ⟨⟨i.val % 2048, by omega⟩, Finset.mem_univ _, Fin.ext (show 2048 * b.val + i.val % 2048 = i.val by omega)⟩

/-- The identity over the reals: pooling by `exp (t - μ)` over their sum the rows put through the linear layer is the linear layer
    of the rows pooled by `exp t` over their sum. -/
theorem pool_linear {n d : ℕ} [NeZero n] (t : Fin n → ℝ) (μ : ℝ) (x : Fin n → Fin d → ℝ) (w : Fin d → ℝ) :
    ∑ k, (∑ r, Real.exp (t r) * x r k) * (1 / ∑ r, Real.exp (t r)) * w k
      = ∑ r, Real.exp (t r - μ) * (1 / ∑ r, Real.exp (t r - μ)) * ∑ k, x r k * w k := by
  have hs : ∑ r, Real.exp (t r - μ) = Real.exp (-μ) * ∑ r, Real.exp (t r) := by
    rw [Finset.mul_sum]
    exact Finset.sum_congr rfl fun r _ => by rw [← Real.exp_add]; congr 1; ring
  have hq : ∀ r, Real.exp (t r - μ) * (1 / ∑ r, Real.exp (t r - μ)) = Real.exp (t r) * (1 / ∑ r, Real.exp (t r)) := fun r => by
    have h0 : (∑ r, Real.exp (t r)) ≠ 0 := (Finset.sum_pos (fun r _ => Real.exp_pos (t r)) Finset.univ_nonempty).ne'
    have h1 := (Real.exp_pos (-μ)).ne'
    rw [hs, show t r - μ = t r + -μ from sub_eq_add_neg _ _, Real.exp_add]
    field_simp
  simp only [hq, Finset.sum_mul, Finset.mul_sum]
  rw [Finset.sum_comm]
  exact Finset.sum_congr rfl fun r _ => Finset.sum_congr rfl fun k _ => by ring

/-- A row against `a · W` is `a` against the row put through the linear layer. -/
theorem score_linear {d e : ℕ} (a : Fin e → ℝ) (w : Fin e → Fin d → ℝ) (x : Fin d → ℝ) :
    ∑ k, (∑ j, a j * w j k) * x k = ∑ j, a j * ∑ k, x k * w j k := by
  simp only [Finset.sum_mul, Finset.mul_sum]
  rw [Finset.sum_comm]
  exact Finset.sum_congr rfl fun r _ => Finset.sum_congr rfl fun k _ => by ring

section

variable {X : FVec Ideal Cert.KernelIdeal.S32768x128 .f32} {W : FVec Ideal Cert.KernelIdeal.S128x128 .f32}
  {a : FVec Ideal Cert.KernelIdeal.S1x128 .f32} {x : Fin 32768 → Fin 128 → ℝ} {w : Fin 128 → Fin 128 → ℝ} {α : Fin 128 → ℝ}
  (hX : ∀ i k, X (ix2 i k) = (x i k : EReal)) (hW : ∀ j k, W (ix2 j k) = (w j k : EReal)) (ha : ∀ j, a (ix2 (0 : Fin 1) j) = (α j : EReal))
include hX hW

/-- The linear layer on real arrays. -/
theorem hidden_real (i : Fin 32768) (j : Fin 128) : Cert.ReferenceIdeal.Pool.hidden X W i j = ((∑ k, x i k * w j k : ℝ) : EReal) := by
  unfold Cert.ReferenceIdeal.Pool.hidden
  simp only [hX, hW, ← EReal.coe_mul, sum_coe]

include ha

/-- The reference's score of a row, on real arrays. -/
theorem score_real (i : Fin 32768) :
    Cert.ReferenceIdeal.Pool.score X W a i = ((Real.tanh (∑ j, α j * ∑ k, x i k * w j k) : ℝ) : EReal) := by
  unfold Cert.ReferenceIdeal.Pool.score
  simp only [hidden_real hX hW, ha, ← EReal.coe_mul, sum_coe, Ideal.tanh_coe]

/-- The kernel's weight of a row, on real arrays: the exponential of the reference's score. -/
theorem weight_real (i : Fin 32768) :
    Cert.KernelIdeal.Pool.weight X W a i = ((Real.exp (Real.tanh (∑ j, α j * ∑ k, x i k * w j k)) : ℝ) : EReal) := by
  unfold Cert.KernelIdeal.Pool.weight
  simp only [hX, hW, ha, ← EReal.coe_mul, sum_coe, Ideal.tanh_coe, Ideal.exp_coe, score_linear]

/-- On real arrays the two results agree. -/
theorem pooled_eq (b : Fin 16) (j : Fin 128) :
    Cert.KernelIdeal.Pool.pooled X W a b j = Cert.ReferenceIdeal.Pool.pooled X W a b j := by
  obtain ⟨μ, hμ⟩ : ∃ μ : ℝ, Cert.ReferenceIdeal.Pool.top X W a b = (μ : EReal) := by
    unfold Cert.ReferenceIdeal.Pool.top
    refine fold_max_real _ _ (fun i _ => ?_) (rowOf b 0) (Finset.mem_univ _) ?_
    · split
      · rw [score_real hX hW ha]; exact EReal.coe_ne_top _
      · exact bot_ne_top
    · rw [if_pos (graphOf_rowOf b 0), score_real hX hW ha]
      exact EReal.coe_ne_bot _
  have he : ∀ r, Cert.ReferenceIdeal.Pool.expo X W a (rowOf b r)
      = ((Real.exp (Real.tanh (∑ j, α j * ∑ k, x (rowOf b r) k * w j k) - μ) : ℝ) : EReal) := fun r => by
    unfold Cert.ReferenceIdeal.Pool.expo
    rw [graphOf_rowOf, hμ, score_real hX hW ha, ← EReal.coe_sub, Ideal.exp_coe]
  have hd : Cert.ReferenceIdeal.Pool.denom X W a b
      = ((∑ r, Real.exp (Real.tanh (∑ j, α j * ∑ k, x (rowOf b r) k * w j k) - μ) : ℝ) : EReal) := by
    unfold Cert.ReferenceIdeal.Pool.denom
    rw [sum_graph]
    simp only [he, sum_coe]
  have hpos : ∀ f : Fin 2048 → ℝ, (∑ r, Real.exp (f r)) ≠ 0 := fun f =>
    (Finset.sum_pos (fun r _ => Real.exp_pos (f r)) Finset.univ_nonempty).ne'
  unfold Cert.KernelIdeal.Pool.pooled Cert.ReferenceIdeal.Pool.pooled
  rw [sum_graph]
  simp only [graphOf_rowOf, hd, he, weight_real hX hW ha, hidden_real hX hW, hX, hW, ← EReal.coe_mul, sum_coe, Ideal.div_coe (hpos _)]
  exact congrArg _ (pool_linear _ μ _ _)

end

end Cert.Equation

end
-- ==== Proof.Finite.lean ====
/- What the precondition says: the three float arrays hold reals, and every atom count is 2048. -/
module

public import proofs.«01_k».proof.Defs
public import proofs.«01_k».proof.Proof.Gen.Pre_finite_equal_graphs
public import Idealize.ShloMosaic.Lib.Pointwise

@[expose] public section

set_option maxRecDepth 16384

noncomputable section

namespace Cert.Finite

open Idealize.ShloMosaic Idealize.SL.Sem

/-- A value whose absolute value compares below infinity is a real. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  change BitVec.ofBool (decide (max x (-x) < ⊤)) = 1#1 at h
  induction x with
  | coe r => exact ⟨r, rfl⟩
  | top => simp at h
  | bot => simp at h

/-- A word that compares equal to 2048 is 2048. -/
theorem eq_of_cmpi (x y : BitVec 32) (h : IntOp.cmpi .eq x y = 1#1) : x = y := by
  by_contra hne
  simp [IntOp.cmpi, beq_eq_false_iff_ne.2 hne] at h

/-- The precondition, read: the rows, the weights and the attention vector are reals and each of the sixteen counts is 2048. -/
theorem of_pre (m : (ℓ : Loc Cert.KernelIdeal.nD Cert.KernelIdeal.τ Cert.KernelIdeal.sig) → Buf (Elt Ideal) ℓ)
    (h : Cert.Pre_KernelIdeal_finite_equal_graphs m) (c : Dev Cert.KernelIdeal.nD) :
    (∃ x : Fin 32768 → Fin 128 → ℝ, ∀ i k, (m ((c.tc : Thread Cert.KernelIdeal.nD Cert.KernelIdeal.τ).loc Cert.KernelIdeal.main_arg0)
        : FVec Ideal Cert.KernelIdeal.S32768x128 .f32) (ix2 i k) = (x i k : EReal))
      ∧ (m ((c.tc : Thread Cert.KernelIdeal.nD Cert.KernelIdeal.τ).loc Cert.KernelIdeal.main_arg1) : IVec Cert.KernelIdeal.S16 32) = (fun _ => 2048#32)
      ∧ (∃ w : Fin 128 → Fin 128 → ℝ, ∀ j k, (m ((c.tc : Thread Cert.KernelIdeal.nD Cert.KernelIdeal.τ).loc Cert.KernelIdeal.main_arg2)
        : FVec Ideal Cert.KernelIdeal.S128x128 .f32) (ix2 j k) = (w j k : EReal))
      ∧ (∃ α : Fin 128 → ℝ, ∀ j, (m ((c.tc : Thread Cert.KernelIdeal.nD Cert.KernelIdeal.τ).loc Cert.KernelIdeal.main_arg3)
        : FVec Ideal Cert.KernelIdeal.S1x128 .f32) (ix2 (0 : Fin 1) j) = (α j : EReal)) := by
  obtain ⟨h0, h1, h2, h3⟩ := h c
  have r0 := fun i k => real_of_abs_lt _ (congrFun h0 (ix2 i k))
  have r2 := fun i k => real_of_abs_lt _ (congrFun h2 (ix2 i k))
  have r3 := fun k => real_of_abs_lt _ (congrFun h3 (ix2 (0 : Fin 1) k))
  choose x hx using r0
  choose w hw using r2
  choose α hα using r3
  exact ⟨⟨x, hx⟩, funext fun i => eq_of_cmpi _ _ (congrFun h1 i), ⟨w, hw⟩, ⟨α, hα⟩⟩

end Cert.Finite

end
-- ==== Proof.lean ====
/- The five claims: the frames of the kernel at bits and at the ideal instance and of the reference, the kernel's idealization
   preserved, and the kernel's result equal to the reference's. The mathematics is in Proof/: what one block computes
   (KernelBlock), what the kernel's array holds (KernelValue), where a scatter's updates land (ScatterAt), which graph a row
   belongs to (SegIds), what the reference computes (RefValue), the equation over the reals (Algebra) and what the precondition
   says (Finite). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_equal_graphs
public import proofs.«01_k».proof.Proof.Algebra
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- From equal finite arguments, sixteen graphs of 2048 rows each, the kernel and the reference end with equal results. -/
theorem algebraic : Cert.algebraic_KernelIdeal_ReferenceIdeal_pre_finite_equal_graphs := by
  intro m g m' g' hpre hargs
  refine ⟨fun c i => Cert.KernelIdeal.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1),
    (θ_run _ _ _).mono (fun _ h c => ⟨(h c).2, (h c).1⟩) (Cert.KernelIdeal.Pool.run m g),
    (θ_run _ _ _).mono (fun _ h c => ⟨(h c).1.trans (funext fun i => ?_), (h c).2⟩) (Cert.ReferenceIdeal.Value.run m' g')⟩
  obtain ⟨⟨x, hx⟩, hn, ⟨w, hw⟩, ⟨α, hα⟩⟩ := Cert.Finite.of_pre m hpre c
  obtain ⟨a0, a1, a2, a3⟩ := hargs c
  obtain ⟨b, j, rfl⟩ : ∃ (b : Fin 16) (j : Fin 128), i = ix2 b j := ⟨i 0, i 1, ValueIdx.eq_ix2 i⟩
  refine (Cert.ReferenceIdeal.Pool.result_at (StableHlo.launchContents m' c) (a1.trans hn) b j).trans ?_
  refine Eq.trans ?_ (Cert.Equation.pooled_eq hx hw hα b j).symm
  rw [← a0, ← a2, ← a3]

/-- The reference runs, leaves its arguments unchanged and its counters at zero. -/
theorem ref : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- Everything claimed. -/
theorem claim : Cert.Claim := ⟨Cert.Kernel.Gen.facts, Cert.KernelIdeal.Gen.facts, Cert.ReferenceIdeal.Gen.facts,
  Cert.Pre_finite_equal_graphs.Gen.facts,
  fun m ρ _ => Cert.Kernel.Gen.frame m ρ, fun m ρ _ => Cert.KernelIdeal.Gen.frame m ρ, fun m ρ _ => Cert.KernelIdeal.Gen.frame m ρ,
  ref, fun m g _ => ref m g trivial, trivial, algebraic⟩

end Cert.Proof

end
